-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_finite [hPre_mask_finite : Cert.Pre_mask_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mask_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_finite [hPre_mask_finite : Cert.Pre_mask_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_mask_finite [hKernelIdeal : Cert.KernelIdeal.Facts] [hPre_mask_finite : Cert.Pre_mask_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_mask_finite [hReferenceIdeal : Cert.ReferenceIdeal.Facts] [hPre_mask_finite : Cert.Pre_mask_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_mask_finite [hKernelIdeal : Cert.KernelIdeal.Facts] [hReferenceIdeal : Cert.ReferenceIdeal.Facts] [hPre_mask_finite : Cert.Pre_mask_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_mask_finite : Cert.Pre_mask_finite.Facts),
    quiescent_Kernel (hKernel := hKernel)
    ∧ quiescent_KernelIdeal (hKernelIdeal := hKernelIdeal)
    ∧ quiescent_KernelIdeal_pre_mask_finite (hKernelIdeal := hKernelIdeal) (hPre_mask_finite := hPre_mask_finite)
    ∧ quiescent_ReferenceIdeal (hReferenceIdeal := hReferenceIdeal)
    ∧ quiescent_ReferenceIdeal_pre_mask_finite (hReferenceIdeal := hReferenceIdeal) (hPre_mask_finite := hPre_mask_finite)
    ∧ preserves_Kernel_KernelIdeal
    ∧ algebraic_KernelIdeal_ReferenceIdeal_pre_mask_finite (hKernelIdeal := hKernelIdeal) (hReferenceIdeal := hReferenceIdeal) (hPre_mask_finite := hPre_mask_finite)
-- ==== Pre_mask_finite.lean ====
abbrev S4096x256 : Shape := ⟨2, ![4096, 256]⟩
abbrev S4096x256x32 : Shape := ⟨3, ![4096, 256, 32]⟩
abbrev S4096x2048 : Shape := ⟨2, ![4096, 2048]⟩
abbrev S2048x256x32 : Shape := ⟨3, ![2048, 256, 32]⟩
abbrev S32x256x2048 : Shape := ⟨3, ![32, 256, 2048]⟩
abbrev S2048 : Shape := ⟨1, ![2048]⟩
abbrev S_ : Shape := ⟨0, ![]⟩

class Facts : Prop where
  bcast_S_S4096x256x32 : S_.BroadcastsInDim S4096x256x32 (![] : Fin 0 → Fin S4096x256x32.rank)

variable [Facts]

def fn {F : FTy → Type} [FloatOps F] (main_arg0 : IVec S4096x256 32) (main_arg1 : FVec F S4096x256x32 .f32) (main_arg2 : FVec F S4096x2048 .f32) (main_arg3 : FVec F S2048x256x32 .f32) (main_arg4 : FVec F S32x256x2048 .f32) (main_arg5 : FVec F S2048 .f32) : IVec S4096x256x32 1 :=
  let main_v0 : FVec F S4096x256x32 .f32 := Host.absf main_arg1
  let main_cst : FVec F S_ .f32 := constant S_ .f32 0x7F800000#32
  let main_v1 : FVec F S4096x256x32 .f32 := broadcastInDim S4096x256x32 ![] bcast_S_S4096x256x32 main_cst
  let main_v2 : IVec S4096x256x32 1 := cmpf .olt main_v0 main_v1
  main_v2
-- ==== Kernel.lean ====
abbrev S4096x256 : Shape := ⟨2, ![4096, 256]⟩
abbrev S4096x256x32 : Shape := ⟨3, ![4096, 256, 32]⟩
abbrev S4096x2048 : Shape := ⟨2, ![4096, 2048]⟩
abbrev S2048x256x32 : Shape := ⟨3, ![2048, 256, 32]⟩
abbrev S32x256x2048 : Shape := ⟨3, ![32, 256, 2048]⟩
abbrev S2048 : Shape := ⟨1, ![2048]⟩
abbrev S1x2048 : Shape := ⟨2, ![1, 2048]⟩
abbrev S2048x32x256 : Shape := ⟨3, ![2048, 32, 256]⟩
abbrev S8192x2048 : Shape := ⟨2, ![8192, 2048]⟩
abbrev S2048x8192 : Shape := ⟨2, ![2048, 8192]⟩
abbrev S2048x8x256 : Shape := ⟨3, ![2048, 8, 256]⟩
abbrev S2048x2048 : Shape := ⟨2, ![2048, 2048]⟩
abbrev S4096x32x256 : Shape := ⟨3, ![4096, 32, 256]⟩
abbrev S256x256 : Shape := ⟨2, ![256, 256]⟩
abbrev S256x32x256 : Shape := ⟨3, ![256, 32, 256]⟩
abbrev S256x1x256 : Shape := ⟨3, ![256, 1, 256]⟩
abbrev S512x2048 : Shape := ⟨2, ![512, 2048]⟩
abbrev S256x2048 : Shape := ⟨2, ![256, 2048]⟩
abbrev S1024x256 : Shape := ⟨2, ![1024, 256]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 15
  | .vmem => 27
  | .smem => 0
  | _ => 0

abbrev bufTy : (tb : Table) → Fin (tcTables nBuf tb) → BufTy
  | .hbm, ⟨0, _⟩ => ⟨S4096x256, .i32⟩
  | .hbm, ⟨1, _⟩ => ⟨S4096x256x32, .f32⟩
  | .hbm, ⟨2, _⟩ => ⟨S4096x2048, .f32⟩
  | .hbm, ⟨3, _⟩ => ⟨S2048x256x32, .f32⟩
  | .hbm, ⟨4, _⟩ => ⟨S32x256x2048, .f32⟩
  | .hbm, ⟨5, _⟩ => ⟨S2048, .f32⟩
  | .hbm, ⟨6, _⟩ => ⟨S1x2048, .f32⟩
  | .hbm, ⟨7, _⟩ => ⟨S2048x32x256, .f32⟩
  | .hbm, ⟨8, _⟩ => ⟨S8192x2048, .f32⟩
  | .hbm, ⟨9, _⟩ => ⟨S2048x8192, .bf16⟩
  | .hbm, ⟨10, _⟩ => ⟨S4096x32x256, .f32⟩
  | .hbm, ⟨11, _⟩ => ⟨S8192x2048, .bf16⟩
  | .hbm, ⟨12, _⟩ => ⟨S4096x2048, .bf16⟩
  | .hbm, ⟨13, _⟩ => ⟨S4096x2048, .f32⟩
  | .hbm, ⟨14, _⟩ => ⟨S4096x256x32, .f32⟩
  | .local _ .vmem, ⟨0, _⟩ => ⟨S2048x8x256, .f32⟩
  | .local _ .vmem, ⟨1, _⟩ => ⟨S2048x8x256, .f32⟩
  | .local _ .vmem, ⟨2, _⟩ => ⟨S2048x2048, .bf16⟩
  | .local _ .vmem, ⟨3, _⟩ => ⟨S2048x2048, .bf16⟩
  | .local _ .vmem, ⟨4, _⟩ => ⟨S256x256, .i32⟩
  | .local _ .vmem, ⟨5, _⟩ => ⟨S256x256, .i32⟩
  | .local _ .vmem, ⟨6, _⟩ => ⟨S256x32x256, .f32⟩
  | .local _ .vmem, ⟨7, _⟩ => ⟨S256x32x256, .f32⟩
  | .local _ .vmem, ⟨8, _⟩ => ⟨S512x2048, .f32⟩
  | .local _ .vmem, ⟨9, _⟩ => ⟨S512x2048, .f32⟩
  | .local _ .vmem, ⟨10, _⟩ => ⟨S256x2048, .f32⟩
  | .local _ .vmem, ⟨11, _⟩ => ⟨S256x2048, .f32⟩
  | .local _ .vmem, ⟨12, _⟩ => ⟨S512x2048, .bf16⟩
  | .local _ .vmem, ⟨13, _⟩ => ⟨S512x2048, .bf16⟩
  | .local _ .vmem, ⟨14, _⟩ => ⟨S256x2048, .bf16⟩
  | .local _ .vmem, ⟨15, _⟩ => ⟨S256x2048, .bf16⟩
  | .local _ .vmem, ⟨16, _⟩ => ⟨S1024x256, .i32⟩
  | .local _ .vmem, ⟨17, _⟩ => ⟨S1024x256, .i32⟩
  | .local _ .vmem, ⟨18, _⟩ => ⟨S1024x2048, .bf16⟩
  | .local _ .vmem, ⟨19, _⟩ => ⟨S1024x2048, .bf16⟩
  | .local _ .vmem, ⟨20, _⟩ => ⟨S2048x512, .bf16⟩
  | .local _ .vmem, ⟨21, _⟩ => ⟨S2048x512, .bf16⟩
  | .local _ .vmem, ⟨22, _⟩ => ⟨S512x2048, .bf16⟩
  | .local _ .vmem, ⟨23, _⟩ => ⟨S512x2048, .bf16⟩
  | .local _ .vmem, ⟨24, _⟩ => ⟨S1x2048, .f32⟩
  | .local _ .vmem, ⟨25, _⟩ => ⟨S1024x2048, .f32⟩
  | .local _ .vmem, ⟨26, _⟩ => ⟨S1024x2048, .f32⟩
  | _, _ => ⟨S4096x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23
abbrev cc3_sem4_0 : DmaSem sig := 24
abbrev cc3_sem5_0 : DmaSem sig := 25
abbrev cc3_sem5_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x32x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 16], ![false, false]⟩

def k3_cond1 (i : grid3.Coords) : BitVec 1 :=
  let arg1 : BitVec 32 := BitVec.ofNat 32 (i 1).val
  let c0_i32_13 : BitVec 32 := 0#32
  let v30 : BitVec 1 := Scalar.cmpi .eq arg1 c0_i32_13
  let v31 : BitVec 32 := Scalar.extui v30
  let c0_i32_14 : BitVec 32 := 0#32
  let v32 : BitVec 1 := Scalar.cmpi .ne v31 c0_i32_14
  v32

def k3_cond2 (i : grid3.Coords) : BitVec 1 :=
  let arg1 : BitVec 32 := BitVec.ofNat 32 (i 1).val
  let c0_i32_15 : BitVec 32 := 0#32
  let v33 : BitVec 1 := Scalar.cmpi .ne arg1 c0_i32_15
  let v34 : BitVec 32 := Scalar.extui v33
  let c0_i32_16 : BitVec 32 := 0#32
  let v35 : BitVec 1 := Scalar.cmpi .ne v34 c0_i32_16
  v35

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x256 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2048x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x2048 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1024x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]
-- ==== ReferenceIdeal.lean ====
abbrev S4096x256 : Shape := ⟨2, ![4096, 256]⟩
abbrev S4096x256x32 : Shape := ⟨3, ![4096, 256, 32]⟩
abbrev S4096x2048 : Shape := ⟨2, ![4096, 2048]⟩
abbrev S2048x256x32 : Shape := ⟨3, ![2048, 256, 32]⟩
abbrev S32x256x2048 : Shape := ⟨3, ![32, 256, 2048]⟩
abbrev S2048 : Shape := ⟨1, ![2048]⟩
abbrev S4096x256x1 : Shape := ⟨3, ![4096, 256, 1]⟩
abbrev S1x1x32 : Shape := ⟨3, ![1, 1, 32]⟩
abbrev S_ : Shape := ⟨0, ![]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4096x256, .i32⟩
  | .hbm, ⟨1, _⟩ => ⟨S4096x256x32, .f32⟩
  | .hbm, ⟨2, _⟩ => ⟨S4096x2048, .f32⟩
  | .hbm, ⟨3, _⟩ => ⟨S2048x256x32, .f32⟩
  | .hbm, ⟨4, _⟩ => ⟨S32x256x2048, .f32⟩
  | .hbm, ⟨5, _⟩ => ⟨S2048, .f32⟩
  | .hbm, ⟨6, _⟩ => ⟨S4096x256x1, .i32⟩
  | .hbm, ⟨7, _⟩ => ⟨S1x1x32, .i32⟩
  | .hbm, ⟨8, _⟩ => ⟨S4096x256x32, .i32⟩
  | .hbm, ⟨9, _⟩ => ⟨S4096x256x32, .i32⟩
  | .hbm, ⟨10, _⟩ => ⟨S4096x256x32, .i1⟩
  | .hbm, ⟨11, _⟩ => ⟨S4096x256x32, .f32⟩
  | .hbm, ⟨12, _⟩ => ⟨S4096x256x32, .f32⟩
  | .hbm, ⟨13, _⟩ => ⟨S4096x256x32, .f32⟩
  | .hbm, ⟨14, _⟩ => ⟨S4096x256x32, .f32⟩
  | .hbm, ⟨15, _⟩ => ⟨S4096x256x32, .f32⟩
  | .hbm, ⟨16, _⟩ => ⟨S_, .f32⟩
  | .hbm, ⟨17, _⟩ => ⟨S4096x256x32, .f32⟩
  | .hbm, ⟨18, _⟩ => ⟨S4096x256x32, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | _, _ => ⟨S4096x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_cst : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Proof.Whole.lean ====
/- Stores and loads of a whole buffer: what a buffer reads after one store that fills it. -/
module

public import Idealize.ShloMosaic.Lib.Pipeline.Value
public import Idealize.ShloMosaic.Lib.Pipeline.FrameBody

@[expose] public section

noncomputable section

namespace Cert.FF

open Idealize.ShloMosaic

/-- A view written once, through the rectangle at zero offsets of its own sizes, reads the stored value. -/
theorem read_store_whole {Val : EltTy → Type} [∀ e, Nonempty (Val e)] {sig : RefSig} {κ : Kind} {sp : Space} {S : Shape}
    {e : EltTy} (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ fun y => ⟨_, List.mem_singleton_self _, View.mem_set_unit_zero h inb y⟩,
    View.canon_unit_zero h]

/-- A load through that rectangle reads what the view reads. -/
theorem readAt_whole {Val : EltTy → Type} {sig : RefSig} {κ : Kind} {sp : Space} {S : Shape} {e : EltTy}
    (v : View sig κ sp S e) (f : v.ty.Contents Val) {off : Fin S.rank → Nat} (h : off = fun _ => 0)
    (inb : ∀ a, off a + S.size a ≤ S.size a) :
    v.readAt Val (Rect.unit off S.size inb).toLoadRect f = v.read Val f :=
  View.ld_unit_zero h inb (v.read Val f)

/-- Zero offsets in two and in three dimensions. -/
theorem zero2 : (![0, 0] : Fin 2 → Nat) = fun _ => 0 := by funext a; fin_cases a <;> rfl
theorem zero3 : (![0, 0, 0] : Fin 3 → Nat) = fun _ => 0 := by funext a; fin_cases a <;> rfl

end Cert.FF

end
-- ==== Proof.Ideal.Bodies.lean ====
/- The four kernel bodies of the program: what each leaves in its output buffers, as a function of its input blocks, and the
   proof data of each pipeline at arbitrary contents `V` of the buffers when the region is entered. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Whole
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.KernelIdeal.FF

open Cert.KernelIdeal.Gen Cert.FF
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of every core's buffers. -/
abbrev Bufs (F : FTy → Type) : Type := (c : Dev nD) → (b : Ref sig .tc) → Buf (Elt F) ((c : Thread nD τ).loc b)

variable (V : Bufs F)

/-! ## Region 0: the first weight, reshaped to columns and rounded -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body stores the rounded, reshaped block and leaves its input as it was. -/
theorem body0 (c : Dev nD) (E : Set ℕ) (i : grid0.Coords) (a1 : Memref sig .tc .vmem S2048x8x256 .f32) (h1 : a1.IsWhole)
    (a2 : Memref sig .tc .vmem S2048x2048 .bf16) (h2 : a2.IsWhole) (x : Vec F S2048x8x256 .f32) (K : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (k0_pay1 x)) -∗ K ⟨⟩))
      ⊢ wp frame (wpE (defs₀ (F := F)) Variants.none c none) E (cc0__w1_kernel i a1 h1 a2 h2) K := by
  simp only [cc0__w1_kernel_eq_skeleton]; unfold cc0__w1_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact (read_store_whole _ _ zero2 _ _).trans (congrArg k0_pay1 (readAt_whole _ _ zero3 _))

/-- Region 0's proof data: inputs keep their blocks, the output holds the body's value of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
  Φ _ := Pipeline.ΦA spec0 c
  q _ := fullShare
  owed _ := 0

/-- The proof data of region 0, read back: the arrays as the region finds them, and each buffer after a point. -/
theorem dat0_A (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]

/-- The input's buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [dat0_A]; try rfl) t d).trans
    (by unfold Dat.fetched Dat.blockOf iblk0; rw [dat0_A]; try rfl)

/-- The body at a point of region 0, on the buffers the pipeline calls it with. -/
theorem point0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t))) := by
  unfold bodyAt0
  simp only [before0_0]
  rw [show (dat0 V c).Φ t.succ = (dat0 V c).Φ t.castSucc from rfl,
    show (dat0 V c).owesAt () t.succ = (dat0 V c).owesAt () t.castSucc from rfl, after0_0, after0_1]
  iintro ⟨HΦ, Ho, ⟨%d0, H0⟩, ⟨%d1, H1⟩⟩
  iapply (body0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- Region 0's body obligation. -/
theorem oblig0 (c : Dev nD) : BodyObligation (dat0 (F := F) V c) (defs₀ (F := F)) Variants.none () Set.univ := fun t => by
  rw [bigSep_W0, bigSep_W0,
    show defs₀ (F := F) .tc cfg0.body (cfg0.bodyArgs t (cfg0.slots t)) = bodyAt0 t from by unfold defs₀; rw [Defs.onTc_tc]]
  exact triple_restated (point0 V c t) rfl .rfl fun _ => .rfl

/-! ## Region 1: the one-hot encoding of the selected blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body stores the one-hot encoding of its block of selections. -/
theorem body1 (c : Dev nD) (E : Set ℕ) (i : grid1.Coords) (a1 : Memref sig .tc .vmem S256x256 .i32) (h1 : a1.IsWhole)
    (a2 : Memref sig .tc .vmem S256x32x256 .f32) (h2 : a2.IsWhole) (x : Vec F S256x256 .i32) (K : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (k1_pay1 x)) -∗ K ⟨⟩))
      ⊢ wp frame (wpE (defs₀ (F := F)) Variants.none c none) E (cc1__oh_kernel i a1 h1 a2 h2) K := by
  simp only [cc1__oh_kernel_eq_skeleton]; unfold cc1__oh_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact (read_store_whole _ _ zero3 _ _).trans (congrArg k1_pay1 (readAt_whole _ _ zero2 _))

/-- Region 1's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay1 (iblk1 V c 0 t)
  Φ _ := Pipeline.ΦA spec1 c
  q _ := fullShare
  owed _ := 0

/-- The proof data of region 1, read back: the arrays as the region finds them, and each buffer after a point. -/
theorem dat1_A (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = k1_pay1 (iblk1 V c 0 t) := by dsimp only [dat1]

/-- The input's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [dat1_A]; try rfl) t d).trans
    (by unfold Dat.fetched Dat.blockOf iblk1; rw [dat1_A]; try rfl)

/-- The body at a point of region 1. -/
theorem point1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t))) := by
  unfold bodyAt1
  simp only [before1_0]
  rw [show (dat1 V c).Φ t.succ = (dat1 V c).Φ t.castSucc from rfl,
    show (dat1 V c).owesAt () t.succ = (dat1 V c).owesAt () t.castSucc from rfl, after1_0, after1_1]
  iintro ⟨HΦ, Ho, ⟨%d0, H0⟩, ⟨%d1, H1⟩⟩
  iapply (body1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- Region 1's body obligation. -/
theorem oblig1 (c : Dev nD) : BodyObligation (dat1 (F := F) V c) (defs₀ (F := F)) Variants.none () Set.univ := fun t => by
  rw [bigSep_W1, bigSep_W1,
    show defs₀ (F := F) .tc cfg1.body (cfg1.bodyArgs t (cfg1.slots t)) = bodyAt1 t from by unfold defs₀; rw [Defs.onTc_tc]]
  exact triple_restated (point1 V c t) rfl .rfl fun _ => .rfl

/-! ## Region 2: the second weight and the tokens, rounded -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body stores each of its two blocks rounded. -/
theorem body2 (c : Dev nD) (E : Set ℕ) (i : grid2.Coords) (a1 : Memref sig .tc .vmem S512x2048 .f32) (h1 : a1.IsWhole)
    (a2 : Memref sig .tc .vmem S256x2048 .f32) (h2 : a2.IsWhole) (a3 : Memref sig .tc .vmem S512x2048 .bf16) (h3 : a3.IsWhole)
    (a4 : Memref sig .tc .vmem S256x2048 .bf16) (h4 : a4.IsWhole) (x : Vec F S512x2048 .f32) (y : Vec F S256x2048 .f32)
    (K : PUnit → sProp 𝕄) :
    iprop(owns (c : Thread nD τ) a1 fullShare x ∗ owns (c : Thread nD τ) a2 fullShare y
        ∗ (∃ d, owns (c : Thread nD τ) a3 fullShare d) ∗ (∃ d, owns (c : Thread nD τ) a4 fullShare d)
        ∗ (iprop(owns (c : Thread nD τ) a1 fullShare x ∗ owns (c : Thread nD τ) a2 fullShare y
            ∗ owns (c : Thread nD τ) a3 fullShare (k2_pay1 x) ∗ owns (c : Thread nD τ) a4 fullShare (k2_pay2 y)) -∗ K ⟨⟩))
      ⊢ wp frame (wpE (defs₀ (F := F)) Variants.none c none) E (cc2__prep_kernel i a1 h1 a2 h2 a3 h3 a4 h4) K := by
  simp only [cc2__prep_kernel_eq_skeleton]; unfold cc2__prep_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (read_store_whole _ _ zero2 _ _).trans (congrArg k2_pay1 (readAt_whole _ _ zero2 _))
  iexists _; isplitr
  swap; · iexact H3
  ipureintro
  exact (read_store_whole _ _ zero2 _ _).trans (congrArg k2_pay2 (readAt_whole _ _ zero2 _))

/-- Region 2's proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t)
    | ⟨3, _⟩ => k2_pay2 (iblk2 V c 1 t)
  Φ _ := Pipeline.ΦA spec2 c
  q _ := fullShare
  owed _ := 0

/-- The proof data of region 2, read back: the arrays as the region finds them, and each buffer after a point. -/
theorem dat2_A (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay1 (iblk2 V c 0 t) := by dsimp only [dat2]
theorem after2_3 (c : Dev nD) (t : Fin cfg2.N) : (dat2 V c).after 3 t = k2_pay2 (iblk2 V c 1 t) := by dsimp only [dat2]

/-- Each input's buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [dat2_A]; try rfl) t d).trans
    (by unfold Dat.fetched Dat.blockOf iblk2; rw [dat2_A]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [dat2_A]; try rfl) t d).trans
    (by unfold Dat.fetched Dat.blockOf iblk2; rw [dat2_A]; try rfl)

/-- The body at a point of region 2. -/
theorem point2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t))) := by
  unfold bodyAt2
  simp only [before2_0, before2_1]
  rw [show (dat2 V c).Φ t.succ = (dat2 V c).Φ t.castSucc from rfl,
    show (dat2 V c).owesAt () t.succ = (dat2 V c).owesAt () t.castSucc from rfl, after2_0, after2_1, after2_2, after2_3]
  iintro ⟨HΦ, Ho, ⟨%d0, H0⟩, ⟨%d1, H1⟩, ⟨%d2, H2⟩, ⟨%d3, H3⟩⟩
  iapply (body2 c Set.univ (grid2.coords t) _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- Region 2's body obligation. -/
theorem oblig2 (c : Dev nD) : BodyObligation (dat2 (F := F) V c) (defs₀ (F := F)) Variants.none () Set.univ := fun t => by
  rw [bigSep_W2, bigSep_W2,
    show defs₀ (F := F) .tc cfg2.body (cfg2.bodyArgs t (cfg2.slots t)) = bodyAt2 t from by unfold defs₀; rw [Defs.onTc_tc]]
  exact triple_restated (point2 V c t) rfl .rfl fun _ => .rfl

end Cert.KernelIdeal.FF

end
-- ==== Proof.Ideal.Body3.lean ====
/- The feed-forward body (region 3): its two cases, the accumulation over a row of the grid, and the pipeline's proof data. -/
module

public import proofs.«01_k».proof.Proof.Ideal.Bodies

@[expose] public section

set_option maxRecDepth 16384

noncomputable section

namespace Cert.KernelIdeal.FF

open Cert.KernelIdeal.Gen Cert.FF
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Bufs F)

/-- The first conditional is taken exactly at the first step of a row of the grid. -/
theorem cond1_iff (i : grid3.Coords) : k3_cond1 i = 1#1 ↔ (i 1).val = 0 := by
  have key : ∀ n : Fin 16, Scalar.cmpi .ne (Scalar.extui (Scalar.cmpi .eq (BitVec.ofNat 32 n.val) 0#32) : BitVec 32) 0#32 = 1#1
      ↔ n.val = 0 := by decide +kernel
  exact key (i 1)

/-- The second conditional is taken at all other steps. -/
theorem cond2_iff (i : grid3.Coords) : k3_cond2 i = 1#1 ↔ (i 1).val ≠ 0 := by
  have key : ∀ n : Fin 16, Scalar.cmpi .ne (Scalar.extui (Scalar.cmpi .ne (BitVec.ofNat 32 n.val) 0#32) : BitVec 32) 0#32 = 1#1
      ↔ n.val ≠ 0 := by decide +kernel
  exact key (i 1)

/-- Every point stores into the output's buffer. -/
theorem live5 (i : cfg3.grid.Coords) : cfg3.idle 5 i = false := by
  show (!(k3_cond1 i == 1#1) && !(k3_cond2 i == 1#1)) = false
  by_cases h : (i 1).val = 0
  · rw [(cond1_iff i).mpr h]; rfl
  · rw [(cond2_iff i).mpr h, Bool.and_comm]; rfl

/-- The point's second coordinate. -/
theorem col3 (t : Fin cfg3.N) : (grid3.coords t 1).val = t.val % 16 := by
  have e : (grid3.coords t 1).val = t.val / 1 % 16 := Pipeline.Grid.coords_val t 1 (by decide) rfl
  rw [e, Nat.div_one]

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- At the first step of a row the body stores the step's product plus the bias. -/
theorem body3_first (c : Dev nD) (E : Set ℕ) (i : grid3.Coords) (a2 : Memref sig .tc .vmem S1024x256 .i32) (h2 : a2.IsWhole)
    (a3 : Memref sig .tc .vmem S1024x2048 .bf16) (h3 : a3.IsWhole) (a4 : Memref sig .tc .vmem S2048x512 .bf16) (h4 : a4.IsWhole)
    (a5 : Memref sig .tc .vmem S512x2048 .bf16) (h5 : a5.IsWhole) (a6 : Memref sig .tc .vmem S1x2048 .f32) (h6 : a6.IsWhole)
    (a7 : Memref sig .tc .vmem S1024x2048 .f32) (h7 : a7.IsWhole) (hc1 : k3_cond1 i = 1#1) (hc2 : ¬k3_cond2 i = 1#1)
    (q : Vec F S1024x256 .i32) (x : Vec F S1024x2048 .bf16) (w1 : Vec F S2048x512 .bf16) (w2 : Vec F S512x2048 .bf16)
    (b : Vec F S1x2048 .f32) (K : PUnit → sProp 𝕄) :
    iprop(owns (c : Thread nD τ) a2 fullShare q ∗ owns (c : Thread nD τ) a3 fullShare x ∗ owns (c : Thread nD τ) a4 fullShare w1
        ∗ owns (c : Thread nD τ) a5 fullShare w2 ∗ owns (c : Thread nD τ) a6 fullShare b ∗ (∃ d, owns (c : Thread nD τ) a7 fullShare d)
        ∗ (iprop(owns (c : Thread nD τ) a2 fullShare q ∗ owns (c : Thread nD τ) a3 fullShare x ∗ owns (c : Thread nD τ) a4 fullShare w1
            ∗ owns (c : Thread nD τ) a5 fullShare w2 ∗ owns (c : Thread nD τ) a6 fullShare b
            ∗ owns (c : Thread nD τ) a7 fullShare (k3_pay3 i x w1 q w2 b)) -∗ K ⟨⟩))
      ⊢ wp frame (wpE (defs₀ (F := F)) Variants.none c none) E (cc3__ff_kernel i a2 h2 a3 h3 a4 h4 a5 h5 a6 h6 a7 h7) K := by
  simp only [cc3__ff_kernel_eq_skeleton]; unfold cc3__ff_kernel_skel
  simp only [k3_part1_eq_skeleton]; unfold k3_part1_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0; subst e1; subst e2; subst e3; subst e4
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (read_store_whole _ _ zero2 _ _).trans ?_
  rw [readAt_whole _ f0 zero2, readAt_whole _ f1 zero2, readAt_whole _ f2 zero2, readAt_whole _ f3 zero2, readAt_whole _ f4 zero2]

/-- At the other steps it adds the step's product to what the buffer held. -/
theorem body3_next (c : Dev nD) (E : Set ℕ) (i : grid3.Coords) (a2 : Memref sig .tc .vmem S1024x256 .i32) (h2 : a2.IsWhole)
    (a3 : Memref sig .tc .vmem S1024x2048 .bf16) (h3 : a3.IsWhole) (a4 : Memref sig .tc .vmem S2048x512 .bf16) (h4 : a4.IsWhole)
    (a5 : Memref sig .tc .vmem S512x2048 .bf16) (h5 : a5.IsWhole) (a6 : Memref sig .tc .vmem S1x2048 .f32) (h6 : a6.IsWhole)
    (a7 : Memref sig .tc .vmem S1024x2048 .f32) (h7 : a7.IsWhole) (hc1 : ¬k3_cond1 i = 1#1) (hc2 : k3_cond2 i = 1#1)
    (q : Vec F S1024x256 .i32) (x : Vec F S1024x2048 .bf16) (w1 : Vec F S2048x512 .bf16) (w2 : Vec F S512x2048 .bf16)
    (b : Vec F S1x2048 .f32) (o : Vec F S1024x2048 .f32) (K : PUnit → sProp 𝕄) :
    iprop(owns (c : Thread nD τ) a2 fullShare q ∗ owns (c : Thread nD τ) a3 fullShare x ∗ owns (c : Thread nD τ) a4 fullShare w1
        ∗ owns (c : Thread nD τ) a5 fullShare w2 ∗ owns (c : Thread nD τ) a6 fullShare b ∗ owns (c : Thread nD τ) a7 fullShare o
        ∗ (iprop(owns (c : Thread nD τ) a2 fullShare q ∗ owns (c : Thread nD τ) a3 fullShare x ∗ owns (c : Thread nD τ) a4 fullShare w1
            ∗ owns (c : Thread nD τ) a5 fullShare w2 ∗ owns (c : Thread nD τ) a6 fullShare b
            ∗ owns (c : Thread nD τ) a7 fullShare (k3_pay1 (k3_pay2 i x w1 q w2) o)) -∗ K ⟨⟩))
      ⊢ wp frame (wpE (defs₀ (F := F)) Variants.none c none) E (cc3__ff_kernel i a2 h2 a3 h3 a4 h4 a5 h5 a6 h6 a7 h7) K := by
  simp only [cc3__ff_kernel_eq_skeleton]; unfold cc3__ff_kernel_skel
  simp only [k3_part1_eq_skeleton]; unfold k3_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, Hk⟩
  subst e0; subst e1; subst e2; subst e3; subst e4; subst e5
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (read_store_whole _ _ zero2 _ _).trans ?_
  rw [readAt_whole _ f0 zero2, readAt_whole _ f1 zero2, readAt_whole _ f2 zero2, readAt_whole _ f3 zero2, readAt_whole _ f5 zero2]

/-- What a first step of a row stores. -/
def first3 (c : Dev nD) (t : Fin cfg3.N) : Vec F S1024x2048 .f32 :=
  k3_pay3 (grid3.coords t) (iblk3 V c 1 t) (iblk3 V c 2 t) (iblk3 V c 0 t) (iblk3 V c 3 t) (iblk3 V c 4 t)

/-- What another step stores over the contents `o`. -/
def next3 (c : Dev nD) (t : Fin cfg3.N) (o : Vec F S1024x2048 .f32) : Vec F S1024x2048 .f32 :=
  k3_pay1 (k3_pay2 (grid3.coords t) (iblk3 V c 1 t) (iblk3 V c 2 t) (iblk3 V c 0 t) (iblk3 V c 3 t)) o

/-- The output's buffer after each point: started at the first step of a row, added to at the others. -/
def acc3 (c : Dev nD) : (n : ℕ) → n < cfg3.N → Vec F S1024x2048 .f32
  | 0, h => first3 V c ⟨0, h⟩
  | n + 1, h => if (n + 1) % 16 = 0 then first3 V c ⟨n + 1, h⟩
      else next3 V c ⟨n + 1, h⟩ (acc3 c n (Nat.lt_of_succ_lt h))

/-- At the first step of a row the output's buffer is started. -/
theorem acc3_first (c : Dev nD) (t : Fin cfg3.N) (h : t.val % 16 = 0) : acc3 V c t.val t.isLt = first3 V c t := by
  obtain ⟨n, hn⟩ := t
  cases n with
  | zero => rfl
  | succ n => exact if_pos h

/-- At any other step it is added to. -/
theorem acc3_next (c : Dev nD) (t : Fin cfg3.N) (h : ¬t.val % 16 = 0) :
    acc3 V c t.val t.isLt = next3 V c t (acc3 V c (t.val - 1) (Nat.lt_of_le_of_lt (Nat.sub_le _ _) t.isLt)) := by
  obtain ⟨n, hn⟩ := t
  cases n with
  | zero => exact absurd rfl h
  | succ n => exact if_neg h

/-- Region 3's proof data. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => acc3 V c t.val t.isLt
  Φ _ := Pipeline.ΦA spec3 c
  q _ := fullShare
  owed _ := 0

/-- The proof data of region 3, read back: the arrays as the region finds them, and each buffer after a point. -/
theorem dat3_A (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = acc3 V c t.val t.isLt := by dsimp only [dat3]

/-- Each input's buffer holds its block at every point. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [dat3_A]; try rfl) t d).trans
    (by unfold Dat.fetched Dat.blockOf iblk3; rw [dat3_A]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [dat3_A]; try rfl) t d).trans
    (by unfold Dat.fetched Dat.blockOf iblk3; rw [dat3_A]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [dat3_A]; try rfl) t d).trans
    (by unfold Dat.fetched Dat.blockOf iblk3; rw [dat3_A]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [dat3_A]; try rfl) t d).trans
    (by unfold Dat.fetched Dat.blockOf iblk3; rw [dat3_A]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [dat3_A]; try rfl) t d).trans
    (by unfold Dat.fetched Dat.blockOf iblk3; rw [dat3_A]; try rfl)

/-- Past the first step of a row the output's buffer holds what the step before left. -/
theorem before3_5 (c : Dev nD) (t : Fin cfg3.N) (h : ¬t.val % 16 = 0) (d) :
    (dat3 V c).before 5 t d = acc3 V c (t.val - 1) (Nat.lt_of_le_of_lt (Nat.sub_le _ _) t.isLt) := by
  have h0 : t.val ≠ 0 := fun e => h (by rw [e])
  rw [(dat3 V c).before_out_kept 5 rfl t h0 ?_ live5 (fun _ _ => rfl) d, after3_5]
  refine Bool.eq_false_iff.mpr fun hf => ?_
  have := (flush3_5 _).mp hf
  dsimp only at this
  omega

/-- What the pipeline takes back of a window no point leaves idle. -/
theorem leaves3 (c : Dev nD) (w : Fin cfg3.W) (t : Fin cfg3.N) (h : cfg3.idle w (cfg3.grid.coords t) = false) :
    (dat3 V c).leavesExact w t = owns (c : Thread nD τ) ((cfg3.win w).stage (cfg3.slots t w)) fullShare ((dat3 V c).after w t) := by
  unfold Dat.leavesExact; rw [h]

set_option maxHeartbeats 800000 in
/-- The body at a point of region 3. -/
theorem point3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d))
      ∗ (∃ d, owns (c : Thread nD τ) (st3_4 t) fullShare ((dat3 V c).before 4 t d))
      ∗ (∃ d, owns (c : Thread nD τ) (st3_5 t) fullShare ((dat3 V c).before 5 t d)))
    ⊢ wp frame (wpE (defs₀ (F := F)) Variants.none c none) Set.univ (bodyAt3 t) (fun _ =>
      iprop((dat3 V c).Φ t.succ ∗ (dat3 V c).owesAt () t.succ
        ∗ (dat3 V c).leavesExact 0 t ∗ (dat3 V c).leavesExact 1 t ∗ (dat3 V c).leavesExact 2 t
        ∗ (dat3 V c).leavesExact 3 t ∗ (dat3 V c).leavesExact 4 t ∗ (dat3 V c).leavesExact 5 t)) := by
  unfold bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    leaves3 V c 0 t rfl, leaves3 V c 1 t rfl, leaves3 V c 2 t rfl, leaves3 V c 3 t rfl, leaves3 V c 4 t rfl,
    leaves3 V c 5 t (live5 _), after3_0, after3_1, after3_2, after3_3, after3_4, after3_5]
  by_cases h : t.val % 16 = 0
  · rw [acc3_first V c t h]
    unfold first3
    iintro ⟨HΦ, Ho, ⟨%d0, H0⟩, ⟨%d1, H1⟩, ⟨%d2, H2⟩, ⟨%d3, H3⟩, ⟨%d4, H4⟩, ⟨%d5, H5⟩⟩
    iapply (body3_first c Set.univ (grid3.coords t) _ _ _ _ _ _ _ _ _ _ _ _
      ((cond1_iff _).mpr ((col3 t).trans h)) (fun e => (cond2_iff _).mp e ((col3 t).trans h))
      (iblk3 V c 0 t) (iblk3 V c 1 t) (iblk3 V c 2 t) (iblk3 V c 3 t) (iblk3 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc3_next V c t h]
    simp only [before3_5 V c t h]
    unfold next3
    iintro ⟨HΦ, Ho, ⟨%d0, H0⟩, ⟨%d1, H1⟩, ⟨%d2, H2⟩, ⟨%d3, H3⟩, ⟨%d4, H4⟩, ⟨%d5, H5⟩⟩
    iapply (body3_next c Set.univ (grid3.coords t) _ _ _ _ _ _ _ _ _ _ _ _
      (fun e => h ((col3 t).symm.trans ((cond1_iff _).mp e))) ((cond2_iff _).mpr fun e => h ((col3 t).symm.trans e))
      (iblk3 V c 0 t) (iblk3 V c 1 t) (iblk3 V c 2 t) (iblk3 V c 3 t) (iblk3 V c 4 t) _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- Region 3's body obligation. -/
theorem oblig3 (c : Dev nD) : BodyObligation (dat3 (F := F) V c) (defs₀ (F := F)) Variants.none () Set.univ := fun t => by
  rw [bigSep_W3, bigSep_W3,
    show defs₀ (F := F) .tc cfg3.body (cfg3.bodyArgs t (cfg3.slots t)) = bodyAt3 t from by unfold defs₀; rw [Defs.onTc_tc]]
  exact triple_restated (point3 V c t) rfl .rfl fun _ => .rfl

end Cert.KernelIdeal.FF

end
-- ==== Proof.Ideal.Run.lean ====
/- The run of the whole program: the buffers' contents between its four pipelines, each pipeline as a segment of the run, and
   what a finished execution leaves in memory. -/
module

public import proofs.«01_k».proof.Proof.Ideal.Body3
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.KernelIdeal.FF

open Cert.KernelIdeal.Gen Cert.FF
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of every buffer of every core. -/
abbrev Vals (F : FTy → Type) : Type := Dev nD → Valuation τ sig (Elt F)

/-- Those contents at the TensorCore's references. -/
abbrev at_ (W : Vals F) : Bufs F := fun c b => W c b

/-- What a pipeline that leaves `A` in its arrays makes of the contents `W`. -/
def leave (p : Fin 4) (W : Vals F) (A : (c : Dev nD) → (w : Fin (cfgs p).W) → Buf (Elt F) ((c : Thread nD τ).loc (Pipeline.arrRef (cfgs p).spec w))) :
    Vals F := fun c => Pipeline.withArrays (cfgs p).spec c (W c) (A c)

/-- A pipeline's arrays hold what it leaves in them, -/
theorem leave_arr (p : Fin 4) (L : Pipeline.LaunchFacts (nD := nD) (τ := τ) cfgs p) (W : Vals F) (A) (c : Dev nD) (w : Fin (cfgs p).W) :
    leave p W A c (Proc.devRef .tc (Pipeline.arrRef (cfgs p).spec w)) = A c w := by
  unfold leave; exact Pipeline.withArrays_arr _ L.win.arr_inj c _ _ w

/-- and a buffer that is none of its arrays holds what it held. -/
theorem leave_of_ne (p : Fin 4) (W : Vals F) (A) (c : Dev nD) (b : Ref sig .tc) (hb : ∀ w, Pipeline.arrRef (cfgs p).spec w ≠ b) :
    leave p W A c (Proc.devRef .tc b) = W c (Proc.devRef .tc b) := by
  unfold leave; exact Pipeline.withArrays_of_ne _ c _ _ b hb

/-- At launch, and after the first host operations. -/
abbrev W0 : Vals F := fun c b => m (c, b)
abbrev W1 : Vals F := fun c => StableHlo.after hostOps0 (W0 m c)
/-- After each pipeline, -/
def W2 : Vals F := leave 0 (W1 m) fun c w => (dat0 (at_ (W1 m)) c).arrAt w cfg0.N
def W3 : Vals F := leave 1 (W2 m) fun c w => (dat1 (at_ (W2 m)) c).arrAt w cfg1.N
def W4 : Vals F := leave 2 (W3 m) fun c w => (dat2 (at_ (W3 m)) c).arrAt w cfg2.N
def W5 : Vals F := leave 3 (W4 m) fun c w => (dat3 (at_ (W4 m)) c).arrAt w cfg3.N
/-- and at the end. -/
abbrev W6 : Vals F := fun c => StableHlo.after hostOps4 (W5 m c)

/-- What each pipeline's arrays hold after it. -/
theorem W2_arr (c : Dev nD) (w : Fin cfg0.W) :
    W2 m c (Proc.devRef .tc (Pipeline.arrRef spec0 w)) = (dat0 (at_ (W1 m)) c).arrAt w cfg0.N := leave_arr 0 launch0 (W1 m) _ c w
theorem W3_arr (c : Dev nD) (w : Fin cfg1.W) :
    W3 m c (Proc.devRef .tc (Pipeline.arrRef spec1 w)) = (dat1 (at_ (W2 m)) c).arrAt w cfg1.N := leave_arr 1 launch1 (W2 m) _ c w
theorem W4_arr (c : Dev nD) (w : Fin cfg2.W) :
    W4 m c (Proc.devRef .tc (Pipeline.arrRef spec2 w)) = (dat2 (at_ (W3 m)) c).arrAt w cfg2.N := leave_arr 2 launch2 (W3 m) _ c w
theorem W5_arr (c : Dev nD) (w : Fin cfg3.W) :
    W5 m c (Proc.devRef .tc (Pipeline.arrRef spec3 w)) = (dat3 (at_ (W4 m)) c).arrAt w cfg3.N := leave_arr 3 launch3 (W4 m) _ c w

/-- The arrays a pipeline writes. -/
abbrev outs0 : List (Ref sig .tc) := [main_v3]
abbrev outs1 : List (Ref sig .tc) := [main_v4]
abbrev outs2 : List (Ref sig .tc) := [main_v5_0, main_v5_1]
abbrev outs3 : List (Ref sig .tc) := [main_v6]

/-- What a pipeline does not write it leaves as it was: an input's array is not written back, another buffer is not touched. -/
theorem leave_of (p : Fin 4) (L : Pipeline.LaunchFacts (nD := nD) (τ := τ) cfgs p) (W : Vals F) (c : Dev nD)
    (dat : Dat τ (Elt F) Unit ℕ (UR sig nD τ) ℕ (cfgs p) c)
    (A : (c : Dev nD) → (w : Fin (cfgs p).W) → Buf (Elt F) ((c : Thread nD τ).loc (Pipeline.arrRef (cfgs p).spec w)))
    (hA : ∀ w, A c w = dat.arrAt w (cfgs p).N) (h0 : ∀ w, dat.A w = W c (Proc.devRef .tc (Pipeline.arrRef (cfgs p).spec w)))
    (os : List (Ref sig .tc)) (hos : ∀ w, ((cfgs p).win w).isOut = true → Pipeline.arrRef (cfgs p).spec w ∈ os)
    (r : Ref sig .tc) (hr : r ∉ os) : leave p W A c (Proc.devRef .tc r) = W c (Proc.devRef .tc r) := by
  by_cases hw : ∃ w, Pipeline.arrRef (cfgs p).spec w = r
  · obtain ⟨w, rfl⟩ := hw
    have hin : ((cfgs p).win w).isOut = false := by
      cases h : ((cfgs p).win w).isOut with
      | false => rfl
      | true => exact absurd (hos w h) hr
    rw [leave_arr p L W A c w, hA w, dat.arrAt_in w hin, h0 w]
  · exact leave_of_ne p W A c r fun w e => hw ⟨w, e⟩

/-- A buffer that a part of the program does not write holds what it held before that part. -/
theorem W1_of (c : Dev nD) (r : Ref sig .tc) (h : r ∉ hostOps0_W) : W1 m c (Proc.devRef .tc r) = m ((c : Thread nD τ).loc r) :=
  StableHlo.after_of_writes_sub hostOps0 _ hostOps0_writes h
theorem W2_of (c : Dev nD) (r : Ref sig .tc) (h : r ∉ outs0) : W2 m c (Proc.devRef .tc r) = W1 m c (Proc.devRef .tc r) :=
  leave_of 0 launch0 (W1 m) c (dat0 (at_ (W1 m)) c) _ (fun _ => rfl) (fun w => dat0_A _ c w) outs0 (by decide +kernel) r h
theorem W3_of (c : Dev nD) (r : Ref sig .tc) (h : r ∉ outs1) : W3 m c (Proc.devRef .tc r) = W2 m c (Proc.devRef .tc r) :=
  leave_of 1 launch1 (W2 m) c (dat1 (at_ (W2 m)) c) _ (fun _ => rfl) (fun w => dat1_A _ c w) outs1 (by decide +kernel) r h
theorem W4_of (c : Dev nD) (r : Ref sig .tc) (h : r ∉ outs2) : W4 m c (Proc.devRef .tc r) = W3 m c (Proc.devRef .tc r) :=
  leave_of 2 launch2 (W3 m) c (dat2 (at_ (W3 m)) c) _ (fun _ => rfl) (fun w => dat2_A _ c w) outs2 (by decide +kernel) r h
theorem W5_of (c : Dev nD) (r : Ref sig .tc) (h : r ∉ outs3) : W5 m c (Proc.devRef .tc r) = W4 m c (Proc.devRef .tc r) :=
  leave_of 3 launch3 (W4 m) c (dat3 (at_ (W4 m)) c) _ (fun _ => rfl) (fun w => dat3_A _ c w) outs3 (by decide +kernel) r h
theorem W6_of (c : Dev nD) (r : Ref sig .tc) (h : r ∉ hostOps4_W) : W6 m c (Proc.devRef .tc r) = W5 m c (Proc.devRef .tc r) :=
  StableHlo.after_of_writes_sub hostOps4 _ hostOps4_writes h

/-- A buffer nothing writes ends as launched. -/
theorem W6_launch (c : Dev nD) (r : Ref sig .tc) (h : r ∉ hostOps0_W ++ outs0 ++ outs1 ++ outs2 ++ outs3 ++ hostOps4_W) :
    W6 m c (Proc.devRef .tc r) = m ((c : Thread nD τ).loc r) := by
  simp only [List.mem_append, not_or] at h
  obtain ⟨⟨⟨⟨⟨h0, h1⟩, h2⟩, h3⟩, h4⟩, h5⟩ := h
  rw [W6_of m c r h5, W5_of m c r h4, W4_of m c r h3, W3_of m c r h2, W2_of m c r h1, W1_of m c r h0]

/-- Every pipeline's proof data, at the contents it is entered with. -/
def pdats : (p : Fin 4) → (c : Dev nD) → Dat τ (Elt F) Unit ℕ (UR sig nD τ) ℕ (Pipeline.pin (pcfgs (F := F)) adm p) c
  | ⟨0, _⟩ => fun c => dat0 (at_ (W1 m)) c
  | ⟨1, _⟩ => fun c => dat1 (at_ (W2 m)) c
  | ⟨2, _⟩ => fun c => dat2 (at_ (W3 m)) c
  | ⟨3, _⟩ => fun c => dat3 (at_ (W4 m)) c

/-- No core owes another anything, so no level is assigned. -/
abbrev L : GSem nD τ sig → Finset Unit := fun _ => ∅
abbrev lv : GSem nD τ sig → Unit → ℕ := fun _ _ => 0

/-- What every segment carries beside the buffers: the generator register at some state, and nothing owed. -/
abbrev R (c : Dev nD) : sProp 𝕄 := iprop((∃ r, prngReg c r) ∗ ∃ W, owes (c : Thread nD τ) (0 : CellTallies nD τ sig Unit) W)

/-- A list of host operations as a segment entered at the contents `W`. -/
abbrev hseg (ops : List (HloOp τ sig (Elt F))) (hsub : ops.Forall fun op => op.bufs ⊆ StableHlo.tcRefs τ sig)
    (hfresh : ops.Forall fun op => op.fresh = ∅) (W : Vals F) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- A pipeline as a segment, entered at the contents `Wi` and left at `Wo`: its arrays are taken out of the buffers and put
    back as it leaves them, the generator register goes in and out, and nothing is owed. -/
def region (p : Fin 4) (L₀ : Pipeline.LaunchFacts (nD := nD) (τ := τ) cfgs p) (Wi Wo : Vals F)
    (hbody : ∀ c, BodyObligation (pdats m p c) (defs₀ (F := F)) Variants.none () Set.univ)
    (hΦ : ∀ c t, (pdats m p c).Φ t = Pipeline.ΦA (cfgs p).spec c) (hq : ∀ c w, (pdats m p c).q w = fullShare)
    (howed : ∀ c t, (pdats m p c).owed t = 0) (hrec : ∀ c t, (pdats m p c).recorded t = Set.univ)
    (hA : ∀ c w, (pdats m p c).A w = at_ Wi c (Pipeline.arrRef (cfgs p).spec w))
    (hF : ∀ c w, (pdats m p c).arrAt w (cfgs p).N = at_ Wo c (Pipeline.arrRef (cfgs p).spec w))
    (hrest : ∀ c b, b ∉ Finset.univ.image (Pipeline.arrRef (cfgs p).spec) → at_ Wo c b = at_ Wi c b) :
    Pipeline.RegionSeg (pcfgs (F := F)) adm (pdats m) () defs₀ Variants.none L lv p where
  win := L₀.win.to₀
  block_pos := L₀.block_pos
  stage_whole := L₀.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (at_ Wi c)
  hentry c := by
    rw [Pipeline.ownSems0_none]
    have hsplit := Pipeline.arrays_of_unscopedBufs (p := p) (pcfgs (F := F)) adm (pdats m) L₀.win L₀.arr_whole c
      ((pdats m p c).share_full (hq c)) (at_ Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl (by rw [hrec c]; trivial)
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L₀.win L₀.arr_whole c (pdats m) ((pdats m p c).share_full (hq c))
      (at_ Wi c) (at_ Wo c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-- Every buffer that is none of a pipeline's arrays is left as it was. -/
theorem leave_rest (p : Fin 4) (W : Vals F) (A) (c : Dev nD) (b : Ref sig .tc)
    (hb : b ∉ Finset.univ.image (Pipeline.arrRef (cfgs p).spec)) : at_ (leave p W A) c b = at_ W c b :=
  leave_of_ne p W A c b fun w e => hb (Finset.mem_image.mpr ⟨w, Finset.mem_univ _, e⟩)

abbrev reg0 := region m 0 launch0 (W1 m) (W2 m) (fun c => oblig0 _ c) (fun _ _ => rfl) (fun _ _ => rfl) (fun _ _ => rfl)
  (fun _ _ => rfl) (fun c w => dat0_A _ c w) (fun c w => (W2_arr m c w).symm) (fun c b h => leave_rest 0 (W1 m) _ c b h)
abbrev reg1 := region m 1 launch1 (W2 m) (W3 m) (fun c => oblig1 _ c) (fun _ _ => rfl) (fun _ _ => rfl) (fun _ _ => rfl)
  (fun _ _ => rfl) (fun c w => dat1_A _ c w) (fun c w => (W3_arr m c w).symm) (fun c b h => leave_rest 1 (W2 m) _ c b h)
abbrev reg2 := region m 2 launch2 (W3 m) (W4 m) (fun c => oblig2 _ c) (fun _ _ => rfl) (fun _ _ => rfl) (fun _ _ => rfl)
  (fun _ _ => rfl) (fun c w => dat2_A _ c w) (fun c w => (W4_arr m c w).symm) (fun c b h => leave_rest 2 (W3 m) _ c b h)
abbrev reg3 := region m 3 launch3 (W4 m) (W5 m) (fun c => oblig3 _ c) (fun _ _ => rfl) (fun _ _ => rfl) (fun _ _ => rfl)
  (fun _ _ => rfl) (fun c w => dat3_A _ c w) (fun c w => (W5_arr m c w).symm) (fun c b h => leave_rest 3 (W4 m) _ c b h)

/-- The program's segments in order. -/
abbrev parts : List (Pipeline.Seg (pcfgs (F := F)) adm (pdats m) () defs₀ Variants.none L lv) :=
  [ .host (hseg hostOps0 hostOps0_sub hostOps0_fresh (W0 m)), .region (reg0 m), .region (reg1 m), .region (reg2 m), .region (reg3 m),
    .host (hseg hostOps4 hostOps4_sub hostOps4_fresh (W5 m)) ]

/-- The program is the run of its segments. -/
theorem main_parts (c : Dev nD) : main (F := F) c = Pipeline.Seg.run (parts m) := (main_chain c).trans (by chain_rfl)

set_option backward.isDefEq.respectTransparency.types false in
/-- Every execution from zero counters terminates without a fault, with every unscoped buffer at the last contents of the
    fold and every counter at zero. -/
theorem run : θ_run defs (onTc (τ := τ) (main (F := F))) ⟨m, fun _ => 0, ρ⟩ (fun r =>
    (∀ (c : Dev nD) (b : Ref sig .tc), ¬(Proc.devRef .tc b : DevRef τ sig).isScoped → r.2.mem ((c.tc : Thread nD τ).loc b) = W6 m c b)
      ∧ r.2.sem = fun _ => 0) :=
  Pipeline.θ_run_regions_kit_sems (pcfgs (F := F)) adm (pdats m) () cellOf_inj emb₁ defs₀ Variants.none L lv m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h hz => ⟨fun c b hb => h c _ (Finset.mem_filter.mpr ⟨StableHlo.devRef_mem_tcRefs b, hb⟩),
      funext fun g => hz g (.inr (regions_no_unscoped g.2))⟩)

/-- Every execution terminates without a fault, leaves the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c main_arg0 (by decide)).trans (W6_launch m c main_arg0 (by decide)),
     (h.1 c main_arg1 (by decide)).trans (W6_launch m c main_arg1 (by decide)),
     (h.1 c main_arg2 (by decide)).trans (W6_launch m c main_arg2 (by decide)),
     (h.1 c main_arg3 (by decide)).trans (W6_launch m c main_arg3 (by decide)),
     (h.1 c main_arg4 (by decide)).trans (W6_launch m c main_arg4 (by decide)),
     (h.1 c main_arg5 (by decide)).trans (W6_launch m c main_arg5 (by decide))⟩, h.2⟩) (run m ρ)

end Cert.KernelIdeal.FF

end
-- ==== Proof.Same.lean ====
/- The two printed kernels are the same program: the one read at bit patterns and the one read at extended reals differ in
   name only. So what is proved of the second at any float semantics holds of the first. -/
module

public import proofs.«01_k».proof.Defs
public import proofs.«01_k».proof.Proof.Gen.Kernel
public import proofs.«01_k».proof.Proof.Gen.KernelIdeal
public import proofs.«01_k».proof.Proof.Ideal.Run

@[expose] public section

noncomputable section

namespace Cert.FF

open Idealize.ShloMosaic Idealize.ShloMosaic.Tactic Idealize.SL.Sem

variable {F : FTy → Type} [FloatOps F]

/-- The kernel bodies are the same, so the tables of bodies are, -/
theorem bodies_same : Cert.Kernel.defs₀ (F := F) = Cert.KernelIdeal.defs₀ (F := F) := by
  unfold Cert.Kernel.defs₀ Cert.KernelIdeal.defs₀
  refine congrArg Defs.onTc ?_
  funext ℓ a
  match ℓ, a with
  | ⟨0, _⟩, a => sl_kernel_rfl
  | ⟨1, _⟩, a => sl_kernel_rfl
  | ⟨2, _⟩, a => sl_kernel_rfl
  | ⟨3, _⟩, a => sl_kernel_rfl

/-- with the pipelines around them, -/
theorem defs_same : Cert.Kernel.defs (F := F) = Cert.KernelIdeal.defs (F := F) := by
  unfold Cert.Kernel.defs Cert.KernelIdeal.defs
  exact congrArg _ bodies_same

/-- and the programs are the same. -/
theorem main_same : Cert.Kernel.main (F := F) = Cert.KernelIdeal.main (F := F) := rfl

/-- The frame of the kernel at bit patterns. -/
theorem frame_kernel : Cert.quiescent_Kernel := fun m g _ => by
  rw [defs_same, main_same]
  exact Cert.KernelIdeal.FF.frame (F := Bits) m g

end Cert.FF

end
-- ==== Proof.Ideal.Values.lean ====
/- What each of the program's pipelines leaves in its output arrays, over the extended reals, at arbitrary contents `V` of
   the buffers when the pipeline is entered. -/
module

public import proofs.«01_k».proof.Proof.Ideal.Body3
public import Idealize.ShloMosaic.Lib.Pipeline.ValueKit

@[expose] public section

set_option maxRecDepth 16384

noncomputable section

namespace Cert.KernelIdeal.FF

open Cert.KernelIdeal.Gen
open Idealize.ShloMosaic Idealize.ShloMosaic.TcCoe
open Idealize.SL.Sem
open Idealize.ShloMosaic.Pipeline (Dat)
open scoped BigOperators

variable (V : Bufs Ideal) (c : Dev nD)

/-- Which block of its array each window of region 0 is on at a point. -/
theorem idx0 : ∀ t : Fin cfg0.N, win0_0.index t = ![0, t.val, 0] ∧ win0_1.index t = ![0, t.val] :=
  (by decide +kernel : ∀ t : Fin grid0.N, _)

/-- A matrix whose column `y * 256 + x` is the slab's column at `(y, x)`. -/
def flatCols (A : FVec Ideal S2048x32x256 .f32) : FVec Ideal S2048x8192 .bf16 := fun i =>
  A (ix3 (i 0) ⟨(i 1).val / 256, by have := (i 1).isLt; change (i 1).val < 8192 at this; omega⟩ ⟨(i 1).val % 256, by omega⟩)

/-- Region 0 leaves the first weight laid out by columns. -/
theorem final0 : (dat0 V c).arrAt 1 cfg0.N = flatCols (V c main_v1) := by
  refine (dat0 V c).arrAt_eq_of_covers 1 _ (by decide +kernel) fun t _ y => ?_
  blk_simp
  rw [after0_1]
  pointwise [k0_pay1, flatCols]
  blk_ext [iblk0, idx0 t]

/-- Which block of its array each window of region 1 is on at a point. -/
theorem idx1 : ∀ t : Fin cfg1.N, win1_0.index t = ![t.val, 0] ∧ win1_1.index t = ![t.val, 0, 0] :=
  (by decide +kernel : ∀ t : Fin grid1.N, _)

/-- The one-hot mask of the indices `q`: at `(b, y, x)`, one where `q` at `(b, x)` is `y` and zero elsewhere. -/
def oneHot (q : IVec S4096x256 32) : FVec Ideal S4096x32x256 .f32 := fun i =>
  if q (ix2 (i 0) (i 2)) = BitVec.ofNat 32 (i 1).val then 1 else 0

/-- Different words compare as zero. -/
theorem cmpi_ne {a b : BitVec 32} (h : a ≠ b) : IntOp.cmpi .eq a b = 0#1 := by
  simp only [IntOp.cmpi, beq_eq_false_iff_ne.mpr h]; rfl

/-- The comparison of two words as a number. -/
theorem toFloat_eq (a b : BitVec 32) :
    (FloatOps.sitofp .f32 (BitVec.setWidth 32 (IntOp.cmpi .eq a b)) : Ideal .f32) = if b = a then 1 else 0 := by
  change (((BitVec.setWidth 32 (IntOp.cmpi .eq a b)).toInt : ℝ) : EReal) = _
  by_cases h : b = a
  · subst h; simp [IntOp.cmpi]
  · rw [if_neg h, cmpi_ne (Ne.symm h)]; simp

/-- Region 1 leaves the one-hot mask. -/
theorem final1 : (dat1 V c).arrAt 1 cfg1.N = oneHot (V c main_arg0) := by
  refine (dat1 V c).arrAt_eq_of_covers 1 _ (by decide +kernel) fun t _ y => ?_
  blk_simp
  rw [after1_1]
  pointwise [k1_pay1, oneHot]
  rw [toFloat_eq]
  blk_simp [iblk1, idx1 t]
  congr 2
  blk_ext [idx1 t]

/-- Which block of its array each window of region 2 is on at a point. -/
theorem idx2 : ∀ t : Fin cfg2.N, win2_0.index t = ![t.val, 0] ∧ win2_1.index t = ![t.val, 0]
    ∧ win2_2.index t = ![t.val, 0] ∧ win2_3.index t = ![t.val, 0] :=
  (by decide +kernel : ∀ t : Fin grid2.N, _)

/-- Region 2 leaves the second weight, -/
theorem final2_2 : (dat2 V c).arrAt 2 cfg2.N = V c main_v2 := by
  refine (dat2 V c).arrAt_eq_of_covers 2 _ (by decide +kernel) fun t _ y => ?_
  blk_simp
  rw [after2_2]
  pointwise [k2_pay1]
  blk_ext [iblk2, idx2 t]

/-- and the input rows. -/
theorem final2_3 : (dat2 V c).arrAt 3 cfg2.N = V c main_arg2 := by
  refine (dat2 V c).arrAt_eq_of_covers 3 _ (by decide +kernel) fun t _ y => ?_
  blk_simp
  rw [after2_3]
  pointwise [k2_pay2]
  blk_ext [iblk2, idx2 t]

/-- The mask's word of a step and a half. -/
theorem word_eq (i : Fin 16) (p : Fin 2) :
    Scalar.addi (Scalar.muli (BitVec.ofNat 32 i.val) 2#32) (BitVec.ofNat 32 p.val) = BitVec.ofNat 32 (2 * i.val + p.val) := by
  revert i p; decide +kernel

/-- A select on a comparison for equality. -/
theorem select_eq (a b : BitVec 32) (u v : EReal) : Scalar.select (IntOp.cmpi .eq a b) u v = if a = b then u else v := by
  by_cases h : a = b
  · subst h; simp [IntOp.cmpi, Scalar.select]
  · rw [if_neg h, cmpi_ne h]; simp [Scalar.select]

/-- A step's product at an index: its two halves. -/
theorem pay2_apply (i : grid3.Coords) (x : FVec Ideal S1024x2048 .bf16) (w1 : FVec Ideal S2048x512 .bf16)
    (q : IVec S1024x256 32) (w2 : FVec Ideal S512x2048 .bf16) (j : S1024x2048.Idx) :
    (k3_pay2 (F := Ideal) i x w1 q w2 j : EReal) = ∑ p : Fin 2, ∑ e : Fin 256,
      if q (ix2 (j 0) e) = BitVec.ofNat 32 (2 * (i 1).val + p.val)
        then max (∑ d : Fin 2048, (x (ix2 (j 0) d) : EReal) * (w1 (ix2 d ⟨256 * p.val + e.val, by omega⟩) : EReal)) 0
          * (w2 (ix2 ⟨256 * p.val + e.val, by omega⟩ (j 1)) : EReal)
        else (0 : EReal) := by
  have h0 := word_eq (i 1) 0
  have h1 := word_eq (i 1) 1
  rw [Fin.sum_univ_two]
  pointwise [k3_pay2]
  simp only [select_eq]
  rw [show Scalar.addi (Scalar.muli (BitVec.ofNat 32 (i 1).val) 2#32) 0#32 = _ from h0,
    show Scalar.addi (Scalar.muli (BitVec.ofNat 32 (i 1).val) 2#32) 1#32 = _ from h1]
  rfl

/-- A row's first step at an index. -/
theorem pay3_apply (i : grid3.Coords) (x : FVec Ideal S1024x2048 .bf16) (w1 : FVec Ideal S2048x512 .bf16)
    (q : IVec S1024x256 32) (w2 : FVec Ideal S512x2048 .bf16) (b : FVec Ideal S1x2048 .f32) (j : S1024x2048.Idx) :
    (k3_pay3 (F := Ideal) i x w1 q w2 b j : EReal) = (b (ix2 0 (j 1)) : EReal) + (k3_pay2 (F := Ideal) i x w1 q w2 j : EReal) := by
  pointwise [k3_pay3]

/-- Another step at an index. -/
theorem pay1_apply (u o : FVec Ideal S1024x2048 .f32) (j : S1024x2048.Idx) :
    (k3_pay1 (F := Ideal) u o j : EReal) = (o j : EReal) + (u j : EReal) := by
  pointwise [k3_pay1]

/-- Which block of its array each window of region 3 is on at a point. -/
theorem idx3 : ∀ t : Fin cfg3.N, win3_0.index t = ![t.val / 16, 0] ∧ win3_1.index t = ![t.val / 16, 0]
    ∧ win3_2.index t = ![0, t.val % 16] ∧ win3_3.index t = ![t.val % 16, 0] ∧ win3_4.index t = ![0, 0]
    ∧ win3_5.index t = ![t.val / 16, 0] :=
  (by decide +kernel : ∀ t : Fin grid3.N, _)

/-- A block's summand: what the hidden unit `e` of slab `y` adds to the output at `i`. -/
def unit (q : IVec S4096x256 32) (x : FVec Ideal S4096x2048 .bf16) (w1 : FVec Ideal S2048x8192 .bf16)
    (w2 : FVec Ideal S8192x2048 .bf16) (i : S4096x2048.Idx) (y : Fin 32) (e : Fin 256) : EReal :=
  if q (ix2 (i 0) e) = BitVec.ofNat 32 y.val
    then max (∑ d : Fin 2048, (x (ix2 (i 0) d) : EReal) * (w1 (ix2 d ⟨256 * y.val + e.val, by omega⟩) : EReal)) 0
      * (w2 (ix2 ⟨256 * y.val + e.val, by omega⟩ (i 1)) : EReal)
    else 0

/-- What a row's output adds up to: the bias and every unit of every slab. -/
def ff (q : IVec S4096x256 32) (x : FVec Ideal S4096x2048 .bf16) (w1 : FVec Ideal S2048x8192 .bf16)
    (w2 : FVec Ideal S8192x2048 .bf16) (b : FVec Ideal S1x2048 .f32) : FVec Ideal S4096x2048 .f32 := fun i =>
  (b (ix2 0 (i 1)) : EReal) + ∑ y : Fin 32, ∑ e : Fin 256, unit q x w1 w2 i y e

/-- A sum over thirty-two slabs is the sum over sixteen steps of their two halves. -/
theorem sum_slabs (g : Fin 32 → EReal) : ∑ y, g y = ∑ s : Fin 16, ∑ p : Fin 2, g ⟨2 * s.val + p.val, by omega⟩ := by
  rw [← Equiv.sum_comp (finProdFinEquiv (m := 16) (n := 2)) g, Fintype.sum_prod_type]
  refine Finset.sum_congr rfl fun s _ => Finset.sum_congr rfl fun p _ => congrArg g (Fin.ext ?_)
  simp [finProdFinEquiv]; omega

/-- Region 3's product at a point, over the arrays. -/
theorem step_apply (t : Fin cfg3.N) (y : S1024x2048.Idx) :
    (k3_pay2 (F := Ideal) (grid3.coords t) (iblk3 V c 1 t) (iblk3 V c 2 t) (iblk3 V c 0 t) (iblk3 V c 3 t) y : EReal)
      = ∑ p : Fin 2, ∑ e : Fin 256, unit (V c main_arg0) (V c main_v5_1) (V c main_v3) (V c main_v5_0)
          (((cfg3.win 5).blk t).view.emb y) ⟨2 * (t.val % 16) + p.val, by omega⟩ e := by
  rw [pay2_apply]
  refine Finset.sum_congr rfl fun p _ => Finset.sum_congr rfl fun e _ => ?_
  unfold unit
  rw [col3]
  dsimp only
  blk_point [iblk3, idx3 t]

/-- The output's buffer at the point that writes it back: the bias and the row's sixteen steps. -/
theorem acc3_apply (t : Fin cfg3.N) (h : t.val % 16 = 15) (y : S1024x2048.Idx) :
    (acc3 V c t.val t.isLt y : EReal)
      = ff (V c main_arg0) (V c main_v5_1) (V c main_v3) (V c main_v5_0) (V c main_v0) (((cfg3.win 5).blk t).view.emb y) := by
  have key := Pipeline.eq_sum_fin_of_reset_step_apply_of_flush (M := EReal) (acc3 V c) 16
    (fun y => (V c main_v0 (ix2 0 (y 1)) : EReal))
    (fun t y => (k3_pay2 (F := Ideal) (grid3.coords t) (iblk3 V c 1 t) (iblk3 V c 2 t) (iblk3 V c 0 t) (iblk3 V c 3 t) y : EReal))
    (fun t h0 y => by
      rw [acc3_first V c t h0]; unfold first3
      refine (pay3_apply _ _ _ _ _ _ y).trans ?_
      congr 1
      blk_ext [iblk3, idx3 t])
    (fun t h0 y => by
      rw [acc3_next V c t h0]; unfold next3
      exact pay1_apply _ _ y) t h y
  refine key.trans ?_
  unfold ff
  rw [sum_slabs]
  congr 1
  · blk_ext [idx3 t]
  · refine Finset.sum_congr rfl fun s _ => ?_
    rw [step_apply]
    refine Finset.sum_congr rfl fun p _ => Finset.sum_congr rfl fun e _ => ?_
    have hs : (16 * (t.val / 16) + s.val) % 16 = s.val := by omega
    have he : ((cfg3.win 5).blk ⟨16 * (t.val / 16) + s.val, Pipeline.run_point_lt_of_flush t h s⟩).view.emb y
        = ((cfg3.win 5).blk t).view.emb y := by
      blk_ext [idx3 t, idx3 ⟨16 * (t.val / 16) + s.val, Pipeline.run_point_lt_of_flush t h s⟩]
    rw [he]
    congr 1
    exact Fin.ext (by dsimp only; rw [hs])

/-- Region 3 leaves the sums. -/
theorem final3 : (dat3 V c).arrAt 5 cfg3.N
    = ff (V c main_arg0) (V c main_v5_1) (V c main_v3) (V c main_v5_0) (V c main_v0) := by
  refine (dat3 V c).arrAt_eq_of_covers 5 _ (by decide +kernel) fun t hf y => ?_
  blk_simp
  rw [after3_5]
  exact acc3_apply V c t ((flush3_5 t).mp hf) y

end Cert.KernelIdeal.FF

end
-- ==== Proof.Ideal.Results.lean ====
/- The program's two results over the extended reals, as functions of its arguments: the one-hot mask, and the bias plus every
   selected hidden unit's share. -/
module

public import proofs.«01_k».proof.Proof.Ideal.Run
public import proofs.«01_k».proof.Proof.Ideal.Values

@[expose] public section

set_option maxRecDepth 16384

noncomputable section

namespace Cert.KernelIdeal.FF

open Cert.KernelIdeal.Gen
open Idealize.ShloMosaic Idealize.ShloMosaic.TcCoe
open Idealize.SL.Sem
open scoped BigOperators

variable (m : (ℓ : Loc nD τ sig) → Buf (Elt Ideal) ℓ) (c : Dev nD)

/-- The host's rearrangements before the first pipeline: the bias as a row, -/
theorem host_v0 : W1 m c (Proc.devRef .tc main_v0) = shapeCast S1x2048 (m ((c : Thread nD τ).loc main_arg5)) shapeCasts_S2048_S1x2048 := by
  after_results
  rfl
/-- the first weight with its last two axes exchanged, -/
theorem host_v1 : W1 m c (Proc.devRef .tc main_v1)
    = transpose S2048x32x256 [0, 2, 1] (m ((c : Thread nD τ).loc main_arg3)) transposes_S2048x256x32_S2048x32x256_0_2_1 := by
  after_results
/-- and the second weight as a matrix. -/
theorem host_v2 : W1 m c (Proc.devRef .tc main_v2) = shapeCast S8192x2048 (m ((c : Thread nD τ).loc main_arg4)) shapeCasts_S32x256x2048_S8192x2048 := by
  after_results
  rfl
/-- After the last one it exchanges the mask's last two axes. -/
theorem host_v7 : W6 m c (Proc.devRef .tc main_v7)
    = transpose S4096x256x32 [0, 2, 1] (W5 m c (Proc.devRef .tc main_v4)) transposes_S4096x32x256_S4096x256x32_0_2_1 := by
  after_results

/-- The mask's array when the last pipeline is over. -/
theorem W5_v4 : W5 m c (Proc.devRef .tc main_v4) = oneHot (m ((c : Thread nD τ).loc main_arg0)) := by
  rw [W5_of m c main_v4 (by decide), W4_of m c main_v4 (by decide)]
  refine (W3_arr m c 1).trans ((final1 _ c).trans (congrArg oneHot ?_))
  exact (W2_of m c main_arg0 (by decide)).trans (W1_of m c main_arg0 (by decide))

/-- The last pipeline's operands when it is entered: the indices, -/
theorem W4_arg0 : W4 m c (Proc.devRef .tc main_arg0) = m ((c : Thread nD τ).loc main_arg0) := by
  rw [W4_of m c main_arg0 (by decide), W3_of m c main_arg0 (by decide), W2_of m c main_arg0 (by decide), W1_of m c main_arg0 (by decide)]
/-- the input rows, -/
theorem W4_v5_1 : W4 m c (Proc.devRef .tc main_v5_1) = m ((c : Thread nD τ).loc main_arg2) := by
  refine (W4_arr m c 3).trans ((final2_3 _ c).trans ?_)
  exact (W3_of m c main_arg2 (by decide)).trans ((W2_of m c main_arg2 (by decide)).trans (W1_of m c main_arg2 (by decide)))
/-- the first weight by columns, -/
theorem W4_v3 : W4 m c (Proc.devRef .tc main_v3)
    = flatCols (transpose S2048x32x256 [0, 2, 1] (m ((c : Thread nD τ).loc main_arg3)) transposes_S2048x256x32_S2048x32x256_0_2_1) := by
  rw [W4_of m c main_v3 (by decide), W3_of m c main_v3 (by decide)]
  exact (W2_arr m c 1).trans ((final0 _ c).trans (congrArg flatCols (host_v1 m c)))
/-- the second weight by rows, -/
theorem W4_v5_0 : W4 m c (Proc.devRef .tc main_v5_0)
    = shapeCast S8192x2048 (m ((c : Thread nD τ).loc main_arg4)) shapeCasts_S32x256x2048_S8192x2048 := by
  refine (W4_arr m c 2).trans ((final2_2 _ c).trans ?_)
  exact (W3_of m c main_v2 (by decide)).trans ((W2_of m c main_v2 (by decide)).trans (host_v2 m c))
/-- and the bias. -/
theorem W4_v0 : W4 m c (Proc.devRef .tc main_v0) = shapeCast S1x2048 (m ((c : Thread nD τ).loc main_arg5)) shapeCasts_S2048_S1x2048 := by
  rw [W4_of m c main_v0 (by decide), W3_of m c main_v0 (by decide), W2_of m c main_v0 (by decide), host_v0]

/-- The first result. -/
theorem result_mask (i : S4096x256x32.Idx) : (W6 m c (Proc.devRef .tc main_v7) : FVec Ideal S4096x256x32 .f32) i
    = (if (m ((c : Thread nD τ).loc main_arg0) : IVec S4096x256 32) (ix2 (i 0) (i 1)) = BitVec.ofNat 32 (i 2).val then 1 else 0 : EReal) := by
  rw [host_v7, W5_v4]
  pointwise [oneHot]

/-- The first weight by columns, read at a slab's column. -/
theorem cols_apply (w1 : FVec Ideal S2048x256x32 .f32) (d : Fin 2048) (y : Fin 32) (e : Fin 256) :
    (flatCols (transpose S2048x32x256 [0, 2, 1] w1 transposes_S2048x256x32_S2048x32x256_0_2_1) (ix2 d ⟨256 * y.val + e.val, by omega⟩) : EReal)
      = w1 (ix3 d e y) := by
  have hy : (⟨(256 * y.val + e.val) / 256, by omega⟩ : Fin 32) = y := Fin.ext (by show (256 * y.val + e.val) / 256 = y.val; omega)
  have he : (⟨(256 * y.val + e.val) % 256, by omega⟩ : Fin 256) = e := Fin.ext (by show (256 * y.val + e.val) % 256 = e.val; omega)
  change transpose S2048x32x256 [0, 2, 1] w1 transposes_S2048x256x32_S2048x32x256_0_2_1 (ix3 d ⟨(256 * y.val + e.val) / 256, _⟩ ⟨(256 * y.val + e.val) % 256, _⟩) = _
  rw [hy, he]
  pointwise

/-- The second weight by rows, read at a slab's row. -/
theorem rows_apply (w2 : FVec Ideal S32x256x2048 .f32) (o : Fin 2048) (y : Fin 32) (e : Fin 256) :
    (shapeCast S8192x2048 w2 shapeCasts_S32x256x2048_S8192x2048 (ix2 ⟨256 * y.val + e.val, by omega⟩ o) : EReal) = w2 (ix3 y e o) := by
  pointwise

/-- The bias as a row. -/
theorem bias_apply (b : FVec Ideal S2048 .f32) (o : Fin 2048) :
    (shapeCast S1x2048 b shapeCasts_S2048_S1x2048 (ix2 0 o) : EReal) = b (ix1 o) := by
  pointwise

/-- The second result. -/
theorem result_out (q : IVec S4096x256 32) (x : FVec Ideal S4096x2048 .f32)
    (w1 : FVec Ideal S2048x256x32 .f32) (w2 : FVec Ideal S32x256x2048 .f32) (b : FVec Ideal S2048 .f32)
    (hq : m ((c : Thread nD τ).loc main_arg0) = q) (hx : m ((c : Thread nD τ).loc main_arg2) = x) (h1 : m ((c : Thread nD τ).loc main_arg3) = w1)
    (h2 : m ((c : Thread nD τ).loc main_arg4) = w2) (hb : m ((c : Thread nD τ).loc main_arg5) = b) (i : S4096x2048.Idx) :
    (W6 m c (Proc.devRef .tc main_v6) : FVec Ideal S4096x2048 .f32) i
      = ((∑ e : Fin 256, ∑ y : Fin 32, if q (ix2 (i 0) e) = BitVec.ofNat 32 y.val
          then max (∑ d : Fin 2048, (x (ix2 (i 0) d) : EReal) * (w1 (ix3 d e y) : EReal)) 0 * (w2 (ix3 y e (i 1)) : EReal)
          else (0 : EReal)) + (b (ix1 (i 1)) : EReal) : EReal) := by
  have e : W6 m c (Proc.devRef .tc main_v6) = _ :=
    (W6_of m c main_v6 (by decide)).trans ((W5_arr m c 5).trans (final3 _ c))
  rw [e]
  unfold at_
  rw [W4_arg0, W4_v5_1, W4_v3, W4_v5_0, W4_v0, hq, hx, h1, h2, hb]
  change ((shapeCast S1x2048 b shapeCasts_S2048_S1x2048 (ix2 0 (i 1)) : EReal) + ∑ y : Fin 32, ∑ e : Fin 256, unit _ _ _ _ i y e : EReal) = _
  rw [Finset.sum_comm, add_comm]
  refine congrArg₂ (· + ·) (Finset.sum_congr rfl fun e _ => Finset.sum_congr rfl fun y _ => ?_) (bias_apply b (i 1))
  unfold unit
  refine if_congr Iff.rfl (congrArg₂ (· * ·) (congrArg (max · 0) (Finset.sum_congr rfl fun d _ => congrArg (_ * ·) (cols_apply w1 d y e)))
    (rows_apply w2 (i 1) y e)) rfl

end Cert.KernelIdeal.FF

end
-- ==== Proof.Reference.lean ====
/- The reference: it runs, changes no argument and no counter; and over the extended reals its two results are, wherever the
   mask is finite, the one-hot mask and the masked feed-forward sum. -/
module

public import proofs.«01_k».proof.Defs
public import proofs.«01_k».proof.Proof.Gen.ReferenceIdeal.Run
public import proofs.«01_k».proof.Proof.Gen.ReferenceIdeal.Read
public import proofs.«01_k».proof.Proof.Gen.Pre_mask_finite
public import Idealize.ShloMosaic.Lib.Pipeline.ValueKit

@[expose] public section

set_option maxRecDepth 16384

noncomputable section

namespace Cert.ReferenceIdeal.FF

open Cert.ReferenceIdeal Cert.ReferenceIdeal.Gen Cert.ReferenceIdeal.Read
open Idealize.ShloMosaic Idealize.ShloMosaic.TcCoe Idealize.SL.Sem
open scoped BigOperators

/-- The reference runs, leaves its arguments as they were and every counter at zero. -/
theorem frame : Cert.quiescent_ReferenceIdeal := fun m g _ =>
  (θ_run Cert.ReferenceIdeal.defs _ _).mono
    (fun r h => ⟨fun c => (h c).2.2, sem_eq_zero_of_no_sems (by decide) r.2⟩) (Cert.ReferenceIdeal.Value.run m g)

/-- The reference's mask before it is added to and taken from: one where the index is the slab's, zero elsewhere. -/
theorem hot_apply (q : IVec S4096x256 32) (i : S4096x256x32.Idx) :
    (val_main_v0 (F := Ideal) q i : EReal) = if q (ix2 (i 0) (i 1)) = BitVec.ofNat 32 (i 2).val then 1 else 0 := by
  pointwise [val_main_v0, val_main_call0_v4, val_main_call0_v3, val_main_call0_v2, val_main_call0_v1, val_main_call0_v0]
  generalize q (ix2 (i 0) (i 1)) = a
  change (((IntOp.cmpi .eq a (BitVec.ofNat 32 (i 2).val)).toNat : ℝ) : EReal) = _
  by_cases h : a = BitVec.ofNat 32 (i 2).val
  · rw [if_pos h, h]; simp [IntOp.cmpi]
  · rw [if_neg h]; simp only [IntOp.cmpi, beq_eq_false_iff_ne.mpr h]; simp

/-- A value whose absolute value is below infinity is a real number. -/
theorem real_of_abs_lt (a : EReal) (h : BitVec.ofBool (decide (max a (-a) < Ideal.ofBits .f32 0x7F800000#32)) = 1#1) :
    ∃ r : ℝ, a = r := by
  have htop : Ideal.ofBits .f32 0x7F800000#32 = ⊤ := by simp [Ideal.ofBits, Ideal.ieee]
  have h : max a (-a) < ⊤ := by
    rw [htop] at h
    by_contra hc
    rw [decide_eq_false hc] at h
    exact absurd h (by decide)
  have h1 : a ≠ ⊤ := ne_of_lt ((le_max_left _ _).trans_lt h)
  have h2 : a ≠ ⊥ := fun e => by
    rw [e] at h
    exact absurd h (by simp)
  exact ⟨_, (EReal.coe_toReal h1 h2).symm⟩

variable (q : IVec S4096x256 32) (mask : FVec Ideal S4096x256x32 .f32) (x : FVec Ideal S4096x2048 .f32)
  (w1 : FVec Ideal S2048x256x32 .f32) (w2 : FVec Ideal S32x256x2048 .f32) (b : FVec Ideal S2048 .f32)

/-- Where the mask is finite, every element of it is a real number. -/
theorem mask_real (h : Cert.Pre_mask_finite.fn (F := Ideal) q mask x w1 w2 b = fun _ => 1#1) (i : S4096x256x32.Idx) :
    ∃ r : ℝ, (mask i : EReal) = r := by
  have h := congrFun h i
  unfold Cert.Pre_mask_finite.fn at h
  pointwise at h
  exact real_of_abs_lt _ h

/-- The first result, where the mask is finite: adding the mask and taking it away leaves the one-hot mask. -/
theorem mask_apply (h : ∀ i, ∃ r : ℝ, (mask i : EReal) = r) (i : S4096x256x32.Idx) :
    (val_main_v2 (F := Ideal) q mask i : EReal) = if q (ix2 (i 0) (i 1)) = BitVec.ofNat 32 (i 2).val then 1 else 0 := by
  obtain ⟨r, hr⟩ := h i
  rw [← hot_apply q i]
  change ((val_main_v0 (F := Ideal) q i : EReal) + (mask i : EReal)) - (mask i : EReal) = _
  rw [hr, EReal.add_sub_cancel_right]

/-- A rectified product with a zero-or-one factor is the rectified value or nothing. -/
theorem relu_select (p : Prop) [Decidable p] (s w : EReal) :
    max (s * if p then 1 else 0) 0 * w = if p then max s 0 * w else 0 := by
  by_cases h : p
  · rw [if_pos h, if_pos h, mul_one]
  · rw [if_neg h, if_neg h, mul_zero, max_self, zero_mul]

/-- The second result at an index, where the mask is finite. -/
theorem out_apply (h : ∀ i, ∃ r : ℝ, (mask i : EReal) = r) (i : S4096x2048.Idx) :
    (val_main_v9 (F := Ideal) q mask x w1 w2 b i : EReal)
      = (∑ e : Fin 256, ∑ y : Fin 32, if q (ix2 (i 0) e) = BitVec.ofNat 32 y.val
          then max (∑ d : Fin 2048, (x (ix2 (i 0) d) : EReal) * (w1 (ix3 d e y) : EReal)) 0 * (w2 (ix3 y e (i 1)) : EReal)
          else (0 : EReal)) + (b (ix1 (i 1)) : EReal) := by
  pointwise [val_main_v9, val_main_v8, val_main_v7, val_main_v6, val_main_v5, val_main_v4, val_main_v3, val_main_call1_v0, val_main_call1_cst]
  simp only [mask_apply q mask h, relu_select]
  rfl

end Cert.ReferenceIdeal.FF

end
-- ==== Proof.Equal.lean ====
/- Where the mask is finite, the kernel and the reference leave the same two results over the extended reals. -/
module

public import proofs.«01_k».proof.Proof.Ideal.Results
public import proofs.«01_k».proof.Proof.Reference

@[expose] public section

set_option maxRecDepth 16384

noncomputable section

namespace Cert.FF

open Idealize.ShloMosaic Idealize.ShloMosaic.TcCoe Idealize.SL.Sem
open Cert.KernelIdeal.FF (W6 W6_launch result_mask result_out)

/-- Where the mask is finite, the reference's first result is what the kernel leaves. -/
theorem mask_eq (m : (ℓ : Loc Cert.KernelIdeal.nD Cert.KernelIdeal.τ Cert.KernelIdeal.sig) → Buf (Elt Ideal) ℓ) (c : Dev Cert.KernelIdeal.nD)
    (mask : FVec Ideal Cert.ReferenceIdeal.S4096x256x32 .f32) (h : ∀ i, ∃ r : ℝ, (mask i : EReal) = r) :
    Cert.ReferenceIdeal.Read.val_main_v2 (F := Ideal) (m ((c.tc : Thread Cert.KernelIdeal.nD Cert.KernelIdeal.τ).loc Cert.KernelIdeal.main_arg0)) mask
      = W6 m c (Proc.devRef .tc Cert.KernelIdeal.main_v7) :=
  funext fun i => (Cert.ReferenceIdeal.FF.mask_apply _ mask h i).trans (result_mask m c i).symm

/-- Where the mask is finite, the reference's second result is what the kernel leaves. -/
theorem out_eq (m : (ℓ : Loc Cert.KernelIdeal.nD Cert.KernelIdeal.τ Cert.KernelIdeal.sig) → Buf (Elt Ideal) ℓ) (c : Dev Cert.KernelIdeal.nD)
    (mask : FVec Ideal Cert.ReferenceIdeal.S4096x256x32 .f32) (h : ∀ i, ∃ r : ℝ, (mask i : EReal) = r) :
    Cert.ReferenceIdeal.Read.val_main_v9 (F := Ideal) (m ((c.tc : Thread Cert.KernelIdeal.nD Cert.KernelIdeal.τ).loc Cert.KernelIdeal.main_arg0)) mask
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = W6 m c (Proc.devRef .tc Cert.KernelIdeal.main_v6) :=
  funext fun i => (Cert.ReferenceIdeal.FF.out_apply _ mask _ _ _ _ h i).trans (result_out m c _ _ _ _ _ rfl rfl rfl rfl rfl i).symm

/-- The kernel's two results and the reference's are the same functions of the arguments, wherever the mask is finite. -/
theorem equal : Cert.algebraic_KernelIdeal_ReferenceIdeal_pre_mask_finite := by
  intro m g m' g' hfin hargs
  refine ⟨fun c => W6 m c (Proc.devRef .tc Cert.KernelIdeal.main_v7), fun c => W6 m c (Proc.devRef .tc Cert.KernelIdeal.main_v6), ?_, ?_⟩
  · refine (θ_run _ _ _).mono (fun r h c => ?_) (Cert.KernelIdeal.FF.run (F := Ideal) m g)
    exact ⟨h.1 c Cert.KernelIdeal.main_v7 (by decide), h.1 c Cert.KernelIdeal.main_v6 (by decide),
      (h.1 c Cert.KernelIdeal.main_arg0 (by decide)).trans (W6_launch m c Cert.KernelIdeal.main_arg0 (by decide)),
      (h.1 c Cert.KernelIdeal.main_arg1 (by decide)).trans (W6_launch m c Cert.KernelIdeal.main_arg1 (by decide)),
      (h.1 c Cert.KernelIdeal.main_arg2 (by decide)).trans (W6_launch m c Cert.KernelIdeal.main_arg2 (by decide)),
      (h.1 c Cert.KernelIdeal.main_arg3 (by decide)).trans (W6_launch m c Cert.KernelIdeal.main_arg3 (by decide)),
      (h.1 c Cert.KernelIdeal.main_arg4 (by decide)).trans (W6_launch m c Cert.KernelIdeal.main_arg4 (by decide)),
      (h.1 c Cert.KernelIdeal.main_arg5 (by decide)).trans (W6_launch m c Cert.KernelIdeal.main_arg5 (by decide))⟩
  · refine (θ_run _ _ _).mono (fun r h c => ?_) (Cert.ReferenceIdeal.Value.run (F := Ideal) m' g')
    obtain ⟨h2, h9, hr⟩ := h c
    obtain ⟨e0, e1, e2, e3, e4, e5⟩ := hargs c
    have hmask := Cert.ReferenceIdeal.FF.mask_real _ _ _ _ _ _ (hfin c)
    rw [Cert.ReferenceIdeal.Read.val_main_v2_eq, e0, e1] at h2
    rw [Cert.ReferenceIdeal.Read.val_main_v9_eq, e0, e1, e2, e3, e4, e5] at h9
    exact ⟨h2.trans (mask_eq m c _ hmask), h9.trans (out_eq m c _ hmask), hr⟩

end Cert.FF

end
-- ==== Proof.lean ====
/- The proof of the claims: the kernel's frames, the reference's frames, and that at the extended reals the two leave the same
   results wherever the mask is finite. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_mask_finite
public import proofs.«01_k».proof.Proof.Same
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All the claims: the three programs run to the end, keep their arguments and leave every counter at zero, and the kernel's
    two results are the reference's over the extended reals wherever the mask is finite. -/
theorem claim : Cert.Claim := ⟨Cert.Kernel.Gen.facts, Cert.KernelIdeal.Gen.facts, Cert.ReferenceIdeal.Gen.facts, Cert.Pre_mask_finite.Gen.facts,
  Cert.FF.frame_kernel, fun m g _ => Cert.KernelIdeal.FF.frame (F := Ideal) m g, fun m g _ => Cert.KernelIdeal.FF.frame (F := Ideal) m g,
  Cert.ReferenceIdeal.FF.frame, fun m g _ => Cert.ReferenceIdeal.FF.frame m g trivial, trivial, Cert.FF.equal⟩

end Cert.Proof

end
